-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_indices) = v0 c
          ∧ r.2.mem ((c.tc : Thread Cert.ReferenceIdeal.nD Cert.ReferenceIdeal.τ).loc Cert.ReferenceIdeal.main_v13) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S32768x4096 : Shape := ⟨2, ![32768, 4096]⟩
abbrev S64x4096 : Shape := ⟨2, ![64, 4096]⟩
abbrev S_ : Shape := ⟨0, ![]⟩

class Facts : Prop where
  bcast_S_S32768x4096 : S_.BroadcastsInDim S32768x4096 (![] : Fin 0 → Fin S32768x4096.rank)
  reducesTo_S32768x4096_S_d0_1 : S32768x4096.ReducesTo [0, 1] S_
  h_S_ : 0 < S_.numel
  bcast_S_S64x4096 : S_.BroadcastsInDim S64x4096 (![] : Fin 0 → Fin S64x4096.rank)
  reducesTo_S64x4096_S_d0_1 : S64x4096.ReducesTo [0, 1] S_

variable [Facts]

def fn {F : FTy → Type} [FloatOps F] (main_arg0 : FVec F S32768x4096 .f32) (main_arg1 : FVec F S64x4096 .f32) : IVec S_ 1 :=
  let main_v0 : FVec F S32768x4096 .f32 := Host.absf main_arg0
  let main_cst : FVec F S_ .f32 := constant S_ .f32 0x7F800000#32
  let main_v1 : FVec F S32768x4096 .f32 := broadcastInDim S32768x4096 ![] bcast_S_S32768x4096 main_cst
  let main_v2 : IVec S32768x4096 1 := cmpf .olt main_v0 main_v1
  let main_c : IVec S_ 1 := constantI S_ 1 1#1
  let main_v3 : IVec S_ 1 := (fun x v => Host.reduce IntOp.andi x v reducesTo_S32768x4096_S_d0_1 h_S_) main_v2 main_c
  let main_v4 : FVec F S64x4096 .f32 := Host.absf main_arg1
  let main_cst_0 : FVec F S_ .f32 := constant S_ .f32 0x7F800000#32
  let main_v5 : FVec F S64x4096 .f32 := broadcastInDim S64x4096 ![] bcast_S_S64x4096 main_cst_0
  let main_v6 : IVec S64x4096 1 := cmpf .olt main_v4 main_v5
  let main_c_1 : IVec S_ 1 := constantI S_ 1 1#1
  let main_v7 : IVec S_ 1 := (fun x v => Host.reduce IntOp.andi x v reducesTo_S64x4096_S_d0_1 h_S_) main_v6 main_c_1
  let main_v8 : IVec S_ 1 := andi main_v3 main_v7
  main_v8
-- ==== Kernel.lean ====
abbrev S32768x4096 : Shape := ⟨2, ![32768, 4096]⟩
abbrev S64x4096 : Shape := ⟨2, ![64, 4096]⟩
abbrev S4096x64 : Shape := ⟨2, ![4096, 64]⟩
abbrev S8x32768 : Shape := ⟨2, ![8, 32768]⟩
abbrev S1024x2048 : Shape := ⟨2, ![1024, 2048]⟩
abbrev S2048x64 : Shape := ⟨2, ![2048, 64]⟩
abbrev S8x1024 : Shape := ⟨2, ![8, 1024]⟩
abbrev S1024x64 : Shape := ⟨2, ![1024, 64]⟩
abbrev S64x1024 : Shape := ⟨2, ![64, 1024]⟩
abbrev S1024 : Shape := ⟨1, ![1024]⟩
abbrev S1x1024 : Shape := ⟨2, ![1, 1024]⟩
abbrev S32768x8 : Shape := ⟨2, ![32768, 8]⟩

abbrev nBuf : Space → Nat
  | .hbm => 7
  | .vmem => 10
  | .smem => 0
  | _ => 0

abbrev bufTy : (tb : Table) → Fin (tcTables nBuf tb) → BufTy
  | .hbm, ⟨0, _⟩ => ⟨S32768x4096, .f32⟩
  | .hbm, ⟨1, _⟩ => ⟨S64x4096, .f32⟩
  | .hbm, ⟨2, _⟩ => ⟨S4096x64, .f32⟩
  | .hbm, ⟨3, _⟩ => ⟨S8x32768, .i32⟩
  | .hbm, ⟨4, _⟩ => ⟨S8x32768, .f32⟩
  | .hbm, ⟨5, _⟩ => ⟨S32768x8, .i32⟩
  | .hbm, ⟨6, _⟩ => ⟨S32768x8, .f32⟩
  | .local _ .vmem, ⟨0, _⟩ => ⟨S1024x2048, .f32⟩
  | .local _ .vmem, ⟨1, _⟩ => ⟨S1024x2048, .f32⟩
  | .local _ .vmem, ⟨2, _⟩ => ⟨S1024x2048, .f32⟩
  | .local _ .vmem, ⟨3, _⟩ => ⟨S1024x2048, .f32⟩
  | .local _ .vmem, ⟨4, _⟩ => ⟨S2048x64, .f32⟩
  | .local _ .vmem, ⟨5, _⟩ => ⟨S2048x64, .f32⟩
  | .local _ .vmem, ⟨6, _⟩ => ⟨S8x1024, .i32⟩
  | .local _ .vmem, ⟨7, _⟩ => ⟨S8x1024, .i32⟩
  | .local _ .vmem, ⟨8, _⟩ => ⟨S8x1024, .f32⟩
  | .local _ .vmem, ⟨9, _⟩ => ⟨S8x1024, .f32⟩
  | _, _ => ⟨S32768x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8x1024 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S32768x4096 : Shape := ⟨2, ![32768, 4096]⟩
abbrev S64x4096 : Shape := ⟨2, ![64, 4096]⟩
abbrev S4096x64 : Shape := ⟨2, ![4096, 64]⟩
abbrev S32768x64 : Shape := ⟨2, ![32768, 64]⟩
abbrev S_ : Shape := ⟨0, ![]⟩
abbrev S32768x8 : Shape := ⟨2, ![32768, 8]⟩
abbrev S32768 : Shape := ⟨1, ![32768]⟩
abbrev S32768x1 : Shape := ⟨2, ![32768, 1]⟩

abbrev nBuf : Space → Nat
  | .hbm => 22
  | .vmem => 0
  | .smem => 0
  | _ => 0

abbrev bufTy : (tb : Table) → Fin (tcTables nBuf tb) → BufTy
  | .hbm, ⟨0, _⟩ => ⟨S32768x4096, .f32⟩
  | .hbm, ⟨1, _⟩ => ⟨S64x4096, .f32⟩
  | .hbm, ⟨2, _⟩ => ⟨S4096x64, .f32⟩
  | .hbm, ⟨3, _⟩ => ⟨S32768x64, .f32⟩
  | .hbm, ⟨4, _⟩ => ⟨S32768x64, .f32⟩
  | .hbm, ⟨5, _⟩ => ⟨S32768x64, .f32⟩
  | .hbm, ⟨6, _⟩ => ⟨S_, .f32⟩
  | .hbm, ⟨7, _⟩ => ⟨S32768x64, .f32⟩
  | .hbm, ⟨8, _⟩ => ⟨S32768x64, .f32⟩
  | .hbm, ⟨9, _⟩ => ⟨S_, .f32⟩
  | .hbm, ⟨10, _⟩ => ⟨S32768x64, .f32⟩
  | .hbm, ⟨11, _⟩ => ⟨S32768x64, .f32⟩
  | .hbm, ⟨12, _⟩ => ⟨S32768x8, .f32⟩
  | .hbm, ⟨13, _⟩ => ⟨S32768x8, .i32⟩
  | .hbm, ⟨14, _⟩ => ⟨S_, .f32⟩
  | .hbm, ⟨15, _⟩ => ⟨S32768, .f32⟩
  | .hbm, ⟨16, _⟩ => ⟨S32768x1, .f32⟩
  | .hbm, ⟨17, _⟩ => ⟨S32768x8, .f32⟩
  | .hbm, ⟨18, _⟩ => ⟨S32768x8, .f32⟩
  | .hbm, ⟨19, _⟩ => ⟨S_, .f32⟩
  | .hbm, ⟨20, _⟩ => ⟨S32768x8, .f32⟩
  | .hbm, ⟨21, _⟩ => ⟨S32768x8, .f32⟩
  | _, _ => ⟨S32768x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_values : Ref sig .tc := ⟨.hbm, 12, rfl⟩
abbrev main_indices : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩

abbrev nD : Nat := 1
abbrev τ : Topo := Topo.v7x

variable {F : FTy → Type} [FloatOps F]
-- ==== Proof.Rounds.lean ====
/- The selection by rounds, on one column of 64 extended reals: a round takes the greatest entry, the first position
   that holds it, and puts −∞ there. If no entry is −∞ to begin with, the first eight rounds name, in order, the first
   eight positions of the stable descending sort (`sorted_eq_chosen`). Pure mathematics, no program in it. -/
module

public import Idealize.ShloMosaic.Lib.SortPrefix
public import Mathlib.Data.EReal.Basic
public import Mathlib.Data.Fintype.Card

@[expose] public section

noncomputable section

namespace Cert.Gate

open Idealize.ShloMosaic

/-- One token's column: a number for each of the 64 experts. -/
abbrev Column : Type := Fin 64 → EReal

/-- The greatest entry of a column. -/
def peak (v : Column) : EReal := Finset.univ.sup v

theorem le_peak (v : Column) (i : Fin 64) : v i ≤ peak v := Finset.le_sup (Finset.mem_univ i)

theorem exists_eq_peak (v : Column) : ∃ i, v i = peak v := by
  obtain ⟨i, -, h⟩ := Finset.exists_mem_eq_sup Finset.univ ⟨0, Finset.mem_univ _⟩ v
  exact ⟨i, h.symm⟩

/-- The positions that hold the greatest entry. -/
def peaks (v : Column) : Finset (Fin 64) := Finset.univ.filter fun i => v i = peak v

theorem peaks_nonempty (v : Column) : (peaks v).Nonempty := by
  obtain ⟨i, h⟩ := exists_eq_peak v
  exact ⟨i, Finset.mem_filter.mpr ⟨Finset.mem_univ i, h⟩⟩

/-- The first position that holds the greatest entry. -/
def pick (v : Column) : Fin 64 := (peaks v).min' (peaks_nonempty v)

theorem at_pick (v : Column) : v (pick v) = peak v :=
  (Finset.mem_filter.mp ((peaks v).min'_mem (peaks_nonempty v))).2

theorem pick_le (v : Column) (i : Fin 64) (h : v i = peak v) : pick v ≤ i :=
  (peaks v).min'_le i (Finset.mem_filter.mpr ⟨Finset.mem_univ i, h⟩)

/-- The column with −∞ at the picked position. -/
def hide (v : Column) : Column := fun i => if i = pick v then ⊥ else v i

/-- The column at the start of round `r`. -/
def stage (f : Column) : Nat → Column
  | 0 => f
  | r + 1 => hide (stage f r)

/-- The position that round `r` picks. -/
def chosen (f : Column) (r : Nat) : Fin 64 := pick (stage f r)

section Finite

variable {f : Column} (hf : ∀ i, f i ≠ ⊥)

/-- At the start of a round the positions picked before hold −∞ and the others what they held at first. -/
theorem stage_eq (f : Column) (r : Nat) (i : Fin 64) : stage f r i = if ∃ q < r, chosen f q = i then ⊥ else f i := by
  induction r with
  | zero => simp [stage]
  | succ r ih =>
    show (if i = chosen f r then ⊥ else stage f r i) = _
    by_cases h : i = chosen f r
    · rw [if_pos h, if_pos ⟨r, Nat.lt_succ_self r, h.symm⟩]
    · rw [if_neg h, ih]
      by_cases h' : ∃ q < r, chosen f q = i
      · obtain ⟨q, hq, e⟩ := h'
        rw [if_pos ⟨q, hq, e⟩, if_pos ⟨q, Nat.lt_succ_of_lt hq, e⟩]
      · rw [if_neg h', if_neg]
        rintro ⟨q, hq, e⟩
        rcases Nat.lt_succ_iff_lt_or_eq.mp hq with hq | rfl
        · exact h' ⟨q, hq, e⟩
        · exact h e.symm

/-- Before round `r < 64` some position has not been picked. -/
theorem exists_not_chosen (f : Column) {r : Nat} (hr : r < 64) : ∃ i, ¬ ∃ q < r, chosen f q = i := by
  by_contra hne
  have hall : ∀ i, ∃ q < r, chosen f q = i := fun i => by
    by_contra h
    exact hne ⟨i, h⟩
  have hsub : (Finset.univ : Finset (Fin 64)) ⊆ (Finset.range r).image (chosen f) := fun i _ => by
    obtain ⟨q, hq, e⟩ := hall i
    exact Finset.mem_image.mpr ⟨q, Finset.mem_range.mpr hq, e⟩
  have h1 := (Finset.card_le_card hsub).trans Finset.card_image_le
  rw [Finset.card_univ, Fintype.card_fin, Finset.card_range] at h1
  omega

include hf

theorem peak_stage_ne {r : Nat} (hr : r < 64) : peak (stage f r) ≠ ⊥ := by
  obtain ⟨i, hi⟩ := exists_not_chosen f hr
  intro h
  have h2 := le_peak (stage f r) i
  rw [h, stage_eq, if_neg hi, le_bot_iff] at h2
  exact hf i h2

/-- A round picks a position that no earlier round has picked. -/
theorem chosen_fresh {r : Nat} (hr : r < 64) : ¬ ∃ q < r, chosen f q = chosen f r := fun h => by
  have h1 := at_pick (stage f r)
  rw [show pick (stage f r) = chosen f r from rfl, stage_eq, if_pos h] at h1
  exact peak_stage_ne hf hr h1.symm

/-- A round's greatest entry is the first column's entry at the picked position. -/
theorem peak_stage {r : Nat} (hr : r < 64) : peak (stage f r) = f (chosen f r) := by
  rw [← at_pick, show pick (stage f r) = chosen f r from rfl, stage_eq, if_neg (chosen_fresh hf hr)]

/-- What no earlier round has picked is not greater than what round `r` picks, -/
theorem le_chosen {r : Nat} (hr : r < 64) (p : Fin 64) (hp : ¬ ∃ q < r, chosen f q = p) : f p ≤ f (chosen f r) := by
  have h := le_peak (stage f r) p
  rwa [peak_stage hf hr, stage_eq, if_neg hp] at h

/-- and where it is equal, it is not earlier. -/
theorem chosen_le {r : Nat} (hr : r < 64) (p : Fin 64) (hp : ¬ ∃ q < r, chosen f q = p) (e : f p = f (chosen f r)) :
    chosen f r ≤ p :=
  pick_le (stage f r) p (by rw [peak_stage hf hr, stage_eq, if_neg hp, e])

end Finite

/-! ## The sort -/

/-- On a list in increasing order a stable sort only ever asks whether a later element is before an earlier one. -/
theorem stableSort_of_increasing {n : Nat} (R R' : Fin n → Fin n → Bool) (h : ∀ a b, a < b → R b a = R' b a) :
    ∀ l : List (Fin n), l.Pairwise (· < ·) → stableSort R l = stableSort R' l
  | [], _ => rfl
  | a :: l, hl => by
    rw [List.pairwise_cons] at hl
    unfold stableSort
    rw [stableSort_of_increasing R R' h l hl.2]
    exact insertBefore_congr R R' a _ fun b hb => h a b (hl.1 b ((perm_stableSort R' l).mem_iff.mp hb))

theorem sortedFrom_of_later {n : Nat} (R R' : Fin n → Fin n → Bool) (h : ∀ a b, a < b → R b a = R' b a) :
    sortedFrom R = sortedFrom R' := by
  funext k
  have e : sortPositions n R = sortPositions n R' :=
    stableSort_of_increasing R R' h _ (List.pairwise_lt_finRange n)
  unfold sortedFrom
  rw [List.get_of_eq e]
  rfl

/-- Greater entry first, and of equal entries the earlier position: a strict total order on the positions. -/
def ahead (f : Column) (a b : Fin 64) : Bool := decide (f b < f a) || (decide (f a = f b) && decide (a < b))

theorem ahead_total (f : Column) : StrictTotalBefore (ahead f) :=
  StrictTotalBefore.of_key_then_position (fun x y : EReal => decide (y < x)) f (fun a => by simp)
    (fun a b c h1 h2 => by
      rw [decide_eq_true_eq] at h1 h2 ⊢
      exact lt_trans h2 h1)
    fun a b => by
      rw [decide_eq_true_eq, decide_eq_true_eq]
      rcases lt_trichotomy b a with h | h | h
      · exact Or.inl h
      · exact Or.inr (Or.inl h.symm)
      · exact Or.inr (Or.inr h)

theorem not_ahead_of (f : Column) {a b : Fin 64} (h : f a ≤ f b) (h' : f a = f b → b ≤ a) : ahead f a b = false := by
  unfold ahead
  rw [decide_eq_false (not_lt.mpr h), Bool.false_or]
  by_cases e : f a = f b
  · rw [decide_eq_false (not_lt.mpr (h' e)), Bool.and_false]
  · rw [decide_eq_false e, Bool.false_and]

/-- THE ROUNDS ARE THE SORT: for a column with no −∞ in it, a stable sort that puts the greater entry first takes its
    position `r < 8` from the position that round `r` picks. -/
theorem sorted_eq_chosen {f : Column} (hf : ∀ i, f i ≠ ⊥) (B : Fin 64 → Fin 64 → Bool)
    (hB : ∀ a b, B a b = decide (f b < f a)) (r : Fin 8) : sortedFrom B (r.castLE (by decide)) = chosen f r.val := by
  have lt64 : ∀ q : Fin 8, q.val < 64 := fun q => by have := q.isLt; omega
  have e : sortedFrom B = sortedFrom (ahead f) := sortedFrom_of_later B (ahead f) fun a b hab => by
    rw [hB]
    unfold ahead
    rw [decide_eq_false (not_lt.mpr (le_of_lt hab)), Bool.and_false, Bool.or_false]
  rw [e]
  refine (ahead_total f).sortedFrom_eq_of_prefix (by decide) (fun q : Fin 8 => chosen f q.val) ?_ ?_ ?_ r
  · intro p q h
    by_contra hne
    rcases lt_or_gt_of_ne (fun e => hne (Fin.ext e) : p.val ≠ q.val) with hlt | hlt
    · exact chosen_fresh hf (lt64 q) ⟨p.val, hlt, h⟩
    · exact chosen_fresh hf (lt64 p) ⟨q.val, hlt, h.symm⟩
  · intro i j hij
    have hj : ¬ ∃ q < i.val, chosen f q = chosen f j.val := fun ⟨q, hq, e⟩ =>
      chosen_fresh hf (lt64 j) ⟨q, lt_trans hq hij, e⟩
    exact not_ahead_of f (le_chosen hf (lt64 i) _ hj) (chosen_le hf (lt64 i) _ hj)
  · intro i p hp
    have hj : ¬ ∃ q < i.val, chosen f q = p := fun ⟨q, hq, e⟩ => hp ⟨q, lt_trans hq i.isLt⟩ e
    exact not_ahead_of f (le_chosen hf (lt64 i) _ hj) (chosen_le hf (lt64 i) _ hj)

end Cert.Gate

end
-- ==== Proof.Block.lean ====
/- One block of the kernel at the ideal values, read lane by lane. The kernel's rounds are named once (`tops`, `firsts`,
   `masked`, `rounds`): `payload4` and `payload5` say that the printed body stores just those. Each is then read at a lane
   as the round of Rounds.lean on that lane's column of scores. -/
module

public import proofs.«01_k».proof.Proof.Rounds
public import proofs.«01_k».proof.Proof.Gen.KernelIdeal.Frame
public import Idealize.ShloMosaic.Lib.Pipeline.Value
public import Idealize.ShloMosaic.Lib.ValueIdx
public import Idealize.ShloMosaic.Lib.ValueIdxCoords
public import Idealize.ShloMosaic.Lib.ValueLayout
public import Idealize.ShloMosaic.Lib.MatmulPlain
public import Idealize.ShloMosaic.Lib.IdealHost
public import Idealize.ShloMosaic.PureOps.Ideal.Laws

@[expose] public section

noncomputable section

namespace Cert.Gate

open Idealize.ShloMosaic Idealize.ShloMosaic.ValueIdx Cert.KernelIdeal Cert.KernelIdeal.Gen
open scoped BigOperators

/-! ## The body's values, named -/

section Text

variable {F : FTy → Type} [FloatOps F]

/-- Each element's row number. -/
def rowNos : IVec S64x1024 32 := iota .tc S64x1024 32 [0] iota_S64x1024_d0_w32

/-- Each lane's greatest score. -/
def tops (st : FVec F S64x1024 .f32) : FVec F S1x1024 .f32 :=
  shapeCast S1x1024 (multiReduction .maximumf [0] S1024 st 0xFF800000#32 reduces_S64x1024_S1024 (.inl rfl) rfl) shapeCasts_S1024_S1x1024

/-- Each lane's least row number among the rows that hold the greatest score; the other rows count as 64. -/
def firsts (st : FVec F S64x1024 .f32) : IVec S1x1024 32 :=
  shapeCast S1x1024 (multiReductionI .minsi [0] S1024
    (select (cmpf .oeq st (broadcastTo S64x1024 (tops st) broadcasts_S1x1024_S64x1024)) rowNos (broadcast S64x1024 64#32))
    2147483647#32 reduces_S64x1024_S1024 rfl) shapeCasts_S1024_S1x1024

/-- The scores with −∞ at the picked rows. -/
def masked (st : FVec F S64x1024 .f32) : FVec F S64x1024 .f32 :=
  select (cmpi .eq rowNos (broadcastTo S64x1024 (firsts st) broadcasts_S1x1024_S64x1024))
    (broadcast S64x1024 (Scalar.ofBits .f32 0xFF800000#32)) st

/-- The scores at the start of each round. -/
def rounds (s : FVec F S64x1024 .f32) : Nat → FVec F S64x1024 .f32
  | 0 => s
  | r + 1 => masked (rounds s r)

/-- The scores of a block: the two half products added, one row per expert. -/
def scores (x0 x1 : Vec F S1024x2048 .f32) (x2 x3 : Vec F S2048x64 .f32) : FVec F S64x1024 .f32 :=
  k0_pay7 (View.ld x0 r0_0) (View.ld x2 r0_1) (View.ld x1 r0_0) (View.ld x3 r0_1)

/-- The stored positions, from the scores. -/
def idxOut (s : FVec F S64x1024 .f32) : IVec S8x1024 32 :=
  concatenate S8x1024 0 (List.ofFn fun r : Fin 8 => (⟨S1x1024, firsts (rounds s r.val)⟩ : (t : Shape) × (t.Idx → BitVec 32)))
    concatenates_S1x1024_S1x1024_S1x1024_S1x1024_S1x1024_S1x1024_S1x1024_S1x1024_S8x1024_d0

/-- The eight greatest scores of each lane, one row per round. -/
def topOut (s : FVec F S64x1024 .f32) : FVec F S8x1024 .f32 :=
  concatenate S8x1024 0 (List.ofFn fun r : Fin 8 => (⟨S1x1024, tops (rounds s r.val)⟩ : (t : Shape) × (t.Idx → F .f32)))
    concatenates_S1x1024_S1x1024_S1x1024_S1x1024_S1x1024_S1x1024_S1x1024_S1x1024_S8x1024_d0

/-- The sigmoids of those scores. -/
def sigOut (s : FVec F S64x1024 .f32) : FVec F S8x1024 .f32 :=
  divf (broadcast S8x1024 (Scalar.ofBits .f32 0x3F800000#32))
    (addf (broadcast S8x1024 (Scalar.ofBits .f32 0x3F800000#32))
      (exp (subf (broadcast S8x1024 (Scalar.ofBits .f32 0x00000000#32)) (topOut s))))

/-- The stored weights, from the scores. -/
def wOut (s : FVec F S64x1024 .f32) : FVec F S8x1024 .f32 :=
  mulf (sigOut s) (broadcastTo S8x1024
    (divf (broadcast S1x1024 (Scalar.ofBits .f32 0x40200000#32))
      (shapeCast S1x1024 (multiReduction .add [0] S1024 (sigOut s) 0x00000000#32 reduces_S8x1024_S1024 (.inl rfl) rfl)
        shapeCasts_S1024_S1x1024)) broadcasts_S1x1024_S8x1024)

variable (x0 x1 : Vec F S1024x2048 .f32) (x2 x3 : Vec F S2048x64 .f32)

/-- The body's first store holds the picked rows' numbers. -/
theorem payload4 : out0_4 x0 x1 x2 x3 = View.canon [⟨r0_2, idxOut (scores x0 x1 x2 x3)⟩] := rfl

/-- Its second store holds the weights. -/
theorem payload5 : out0_5 x0 x1 x2 x3 = View.canon [⟨r0_2, wOut (scores x0 x1 x2 x3)⟩] := rfl

end Text

end Cert.Gate

end
-- ==== Proof.Lanes.lean ====
/- The block's values at a lane, at the ideal values: a round on a lane is the round of Rounds.lean on the lane's column,
   so the stored positions are the columns' picks and the stored weights are the picks' normalised sigmoids. -/
module

public import proofs.«01_k».proof.Proof.Block

@[expose] public section

noncomputable section

namespace Cert.Gate

open Idealize.ShloMosaic Idealize.ShloMosaic.ValueIdx Cert.KernelIdeal Cert.KernelIdeal.Gen
open scoped BigOperators

/-- The column of scores of one lane. -/
def lane (st : FVec Ideal S64x1024 .f32) (l : Fin 1024) : Column := fun e => st (ix2 e l)

/-! ## Reductions down a lane -/

/-- Lane `l` of a reduction down the rows reads element (k, l) at row `k`. -/
theorem lift64 (l : Fin 1024) (k : Fin 64) : reduces_S64x1024_S1024.lift (ix1 l) k = ix2 k l := by
  funext a; apply Fin.ext; fin_cases a <;> rfl

/-- The same with eight rows. -/
theorem lift8 (l : Fin 1024) (k : Fin 8) : reduces_S8x1024_S1024.lift (ix1 l) k = ix2 k l := by
  funext a; apply Fin.ext; fin_cases a <;> rfl

theorem tops_apply (st : FVec Ideal S64x1024 .f32) (u : Fin 1) (l : Fin 1024) : tops st (ix2 u l) = peak (lane st l) := by
  unfold tops
  rw [shapeCast_a_1a_apply]
  refine (Ideal.multiReduction_maximumf_single _ _ _ _ _ _).trans ?_
  have h0 : FloatOps.ofBits (F := Ideal) .f32 0xFF800000#32 = (⊥ : EReal) := by
    show Ideal.ofBits .f32 0xFF800000#32 = ⊥
    simp [Ideal.ofBits, Ideal.ieee]
  rw [h0]
  have hf : st ∘ reduces_S64x1024_S1024.lift (ix1 l) = lane st l := funext fun k => congrArg st (lift64 l k)
  exact congrArg (fun f : Fin 64 → EReal => Finset.univ.fold max (⊥ : EReal) f) hf

/-- The least of words that are either 64 or their own row number. -/
theorem fold_least (w : Fin 64 → BitVec 32) (p : Fin 64) (hp : w p = BitVec.ofNat 32 p.val)
    (hw : ∀ e, w e = 64#32 ∨ (w e = BitVec.ofNat 32 e.val ∧ p ≤ e)) :
    (Finset.univ : Finset (Fin 64)).fold IntOp.minsi 2147483647#32 w = BitVec.ofNat 32 p.val := by
  have key : ∀ {x y z : BitVec 32}, x.toInt ≤ (IntOp.minsi y z).toInt ↔ x.toInt ≤ y.toInt ∧ x.toInt ≤ z.toInt := by
    intro x y z
    unfold IntOp.minsi
    by_cases h : y.slt z
    · rw [if_pos h]; rw [BitVec.slt_iff_toInt_lt] at h; constructor
      · intro g; exact ⟨g, by omega⟩
      · exact fun g => g.1
    · rw [if_neg h]; rw [BitVec.slt_iff_toInt_lt] at h; constructor
      · intro g; exact ⟨by omega, g⟩
      · exact fun g => g.2
  have small : ∀ e : Fin 64, (BitVec.ofNat 32 e.val).toInt = (e.val : Int) := by decide
  set W := (Finset.univ : Finset (Fin 64)).fold IntOp.minsi 2147483647#32 w with hW
  have iff := fun c : BitVec 32 => Finset.fold_op_rel_iff_and (op := IntOp.minsi) (r := fun x y : BitVec 32 => x.toInt ≤ y.toInt)
    (s := (Finset.univ : Finset (Fin 64))) (b := 2147483647#32) (f := w) key (c := c)
  apply BitVec.eq_of_toInt_eq
  apply le_antisymm
  · have := ((iff W).1 (by rw [hW])).2 p (Finset.mem_univ _)
    simpa only [hp] using this
  · refine (iff _).2 ⟨?_, fun e _ => ?_⟩
    · show (BitVec.ofNat 32 p.val).toInt ≤ (2147483647#32).toInt
      rw [small]; have := p.isLt; have h : (2147483647#32).toInt = 2147483647 := by decide
      omega
    · show (BitVec.ofNat 32 p.val).toInt ≤ (w e).toInt
      rcases hw e with h | ⟨h, hle⟩
      · rw [h, small]; have := p.isLt; have h : (64#32).toInt = 64 := by decide
        omega
      · rw [h, small, small]; have : p.val ≤ e.val := hle
        omega

theorem rowNos_apply (e : Fin 64) (l : Fin 1024) : rowNos (ix2 e l) = BitVec.ofNat 32 e.val :=
  iota_single_apply .tc S64x1024 32 0 iota_S64x1024_d0_w32 (ix2 e l)

theorem firsts_apply (st : FVec Ideal S64x1024 .f32) (u : Fin 1) (l : Fin 1024) :
    firsts st (ix2 u l) = BitVec.ofNat 32 (pick (lane st l)).val := by
  unfold firsts
  rw [shapeCast_a_1a_apply]
  refine (multiReductionI_eq_fold _ _ _ _ _ _).trans ?_
  refine (reduces_S64x1024_S1024.fold_filter_drop_single _ _ _ (ix1 l)).trans ?_
  have hf : ∀ e : Fin 64, (select (cmpf .oeq st (broadcastTo S64x1024 (tops st) broadcasts_S1x1024_S64x1024)) rowNos (broadcast S64x1024 64#32)
      ∘ reduces_S64x1024_S1024.lift (ix1 l)) e = if lane st l e = peak (lane st l) then BitVec.ofNat 32 e.val else 64#32 := by
    intro e
    refine (congrArg (select (cmpf .oeq st (broadcastTo S64x1024 (tops st) broadcasts_S1x1024_S64x1024)) rowNos (broadcast S64x1024 64#32)) (lift64 l e)).trans ?_
    rw [select_apply, cmpf_apply, broadcastTo_1b_ab_apply, tops_apply, rowNos_apply]
    show Scalar.select (BitVec.ofBool (decide (st (ix2 e l) = peak (lane st l)))) _ 64#32 = _
    rw [WordCmp.select_ofBool]
    simp only [decide_eq_true_eq]
    rfl
  refine fold_least _ (pick (lane st l)) ?_ ?_
  · rw [hf, if_pos (at_pick _)]
  · intro e
    rw [hf]
    by_cases h : lane st l e = peak (lane st l)
    · rw [if_pos h]; exact .inr ⟨rfl, pick_le _ _ h⟩
    · rw [if_neg h]; exact .inl rfl

theorem lane_masked (st : FVec Ideal S64x1024 .f32) (l : Fin 1024) : lane (masked st) l = hide (lane st l) := by
  funext e
  have hb : Scalar.ofBits (F := Ideal) .f32 0xFF800000#32 = (⊥ : EReal) := by
    show Ideal.ofBits .f32 0xFF800000#32 = ⊥
    simp [Ideal.ofBits, Ideal.ieee]
  have inj : ∀ a b : Fin 64, (BitVec.ofNat 32 a.val = BitVec.ofNat 32 b.val) ↔ a = b := fun a b =>
    ⟨fun h => Fin.ext (by have := congrArg BitVec.toNat h; simp only [BitVec.toNat_ofNat] at this; omega), fun h => h ▸ rfl⟩
  unfold lane masked
  rw [select_apply]
  show Scalar.select (BitVec.ofBool (rowNos (ix2 e l) == broadcastTo S64x1024 (firsts st) broadcasts_S1x1024_S64x1024 (ix2 e l))) _ _ = _
  rw [broadcastTo_1b_ab_apply, firsts_apply, rowNos_apply, WordCmp.select_ofBool, broadcast_apply, hb]
  simp only [beq_iff_eq, inj]
  rfl

theorem lane_rounds (s : FVec Ideal S64x1024 .f32) (l : Fin 1024) (r : Nat) : lane (rounds s r) l = stage (lane s l) r := by
  induction r with
  | zero => rfl
  | succ r ih => exact (lane_masked _ l).trans (congrArg hide ih)

/-! ## What is stored -/

theorem idxOut_apply (s : FVec Ideal S64x1024 .f32) (r : Fin 8) (l : Fin 1024) :
    idxOut s (ix2 r l) = BitVec.ofNat 32 (chosen (lane s l) r.val).val := by
  unfold idxOut
  refine (concatenate_ofFn_unit_apply (t := S8x1024) (s₁ := S1x1024) 0 (fun r : Fin 8 => firsts (rounds s r.val)) _ rfl rfl
    (ix2 r l) r rfl (ix2 0 l) (by intro b hb; fin_cases b; · exact absurd rfl hb
                                  · rfl)).trans ?_
  rw [firsts_apply, lane_rounds]
  rfl

theorem topOut_apply (s : FVec Ideal S64x1024 .f32) (r : Fin 8) (l : Fin 1024) :
    topOut s (ix2 r l) = peak (stage (lane s l) r.val) := by
  unfold topOut
  refine (concatenate_ofFn_unit_apply (t := S8x1024) (s₁ := S1x1024) 0 (fun r : Fin 8 => tops (rounds s r.val)) _ rfl rfl
    (ix2 r l) r rfl (ix2 0 l) (by intro b hb; fin_cases b; · exact absurd rfl hb
                                  · rfl)).trans ?_
  rw [tops_apply, lane_rounds]

/-- One over one plus e to the power of `0 - v`. -/
def gate (v : EReal) : EReal := Ideal.div 1 (1 + Ideal.exp (0 - v))

theorem sigOut_apply (s : FVec Ideal S64x1024 .f32) (r : Fin 8) (l : Fin 1024) :
    sigOut s (ix2 r l) = gate (peak (stage (lane s l) r.val)) := by
  have h1 : Scalar.ofBits (F := Ideal) .f32 0x3F800000#32 = (1 : EReal) := Ideal.ofBits_one_f32
  have h0 : Scalar.ofBits (F := Ideal) .f32 0x00000000#32 = (0 : EReal) := Ideal.ofBits_zero_f32
  rw [← topOut_apply]
  unfold sigOut gate
  rw [h1, h0]
  rfl

theorem wOut_apply (s : FVec Ideal S64x1024 .f32) (r : Fin 8) (l : Fin 1024) :
    wOut s (ix2 r l) = gate (peak (stage (lane s l) r.val))
      * Ideal.div (FloatOps.ofBits (F := Ideal) .f32 0x40200000#32) (∑ k : Fin 8, gate (peak (stage (lane s l) k.val))) := by
  unfold wOut
  rw [mulf_apply, sigOut_apply, broadcastTo_1b_ab_apply, divf_apply, shapeCast_a_1a_apply]
  have hs : ∀ k : Fin 8, sigOut s (reduces_S8x1024_S1024.lift (ix1 l) k) = gate (peak (stage (lane s l) k.val)) := fun k => by
    rw [lift8, sigOut_apply]
  have hsum := (Ideal.multiReduction_add_single (sigOut s) 0x00000000#32 reduces_S8x1024_S1024 (.inl rfl) rfl (ix1 l)).trans
    (Finset.sum_congr rfl fun k _ => hs k)
  exact congrArg (fun z => gate (peak (stage (lane s l) r.val)) * Ideal.div (FloatOps.ofBits (F := Ideal) .f32 0x40200000#32) z) hsum

/-- A score is the sum of the two half products. -/
theorem lane_scores (x0 x1 : Vec Ideal S1024x2048 .f32) (x2 x3 : Vec Ideal S2048x64 .f32) (l : Fin 1024) (e : Fin 64) :
    lane (scores x0 x1 x2 x3) l e
      = (∑ k : Fin 2048, (x0 (ix2 l k) : EReal) * x2 (ix2 k e)) + ∑ k : Fin 2048, (x1 (ix2 l k) : EReal) * x3 (ix2 k e) := by
  have hz : (![0, 0] : Fin 2 → Nat) = fun _ => 0 := by funext a; fin_cases a <;> rfl
  have hx : ∀ x : Vec Ideal S1024x2048 .f32, View.ld x r0_0 = x := fun x => View.ld_unit_zero hz _ x
  have hw : ∀ x : Vec Ideal S2048x64 .f32, View.ld x r0_1 = x := fun x => View.ld_unit_zero hz _ x
  have hdot : dot_S1024x2048_S2048x64_S1024x64_1_0_0_1_n_n = DotDims.plain 1024 2048 64 := rfl
  unfold lane scores
  rw [hx, hx, hw, hw]
  unfold k0_pay7
  simp only [shapeCast_self]
  rw [transpose_ix2_apply, addf_apply]
  have hm : ∀ (a : FVec Ideal S1024x2048 .f32) (b : FVec Ideal S2048x64 .f32),
      matmul dot_S1024x2048_S2048x64_S1024x64_1_0_0_1_n_n none a b
        (constant S1024x64 .f32 0x00000000#32 : FVec Ideal S1024x64 .f32) (ix2 l e) = ∑ k : Fin 2048, (a (ix2 l k) : EReal) * b (ix2 k e) := by
    intro a b
    rw [hdot]
    refine (Ideal.matmul_plain_apply none a b _ l e).trans ?_
    rw [show (constant S1024x64 .f32 0x00000000#32 : FVec Ideal S1024x64 .f32) (ix2 l e) = (0 : EReal) from Ideal.ofBits_zero_f32, zero_add]
  exact congrArg₂ (· + ·) (hm x0 x2) (hm x1 x3)

end Cert.Gate

end
-- ==== Proof.Arrays.lean ====
/- The kernel's results after the run, at the ideal values: row `row` of the results is the eight picks of that row's column
   of scores, and their weights. Point `t` of the grid computes rows 1024·t … 1024·t + 1023. -/
module

public import proofs.«01_k».proof.Proof.Lanes
public import proofs.«01_k».proof.Proof.Gen.KernelIdeal.Points
public import Idealize.ShloMosaic.Lib.StableHlo.Run

@[expose] public section

noncomputable section

namespace Cert.Gate

open Idealize.ShloMosaic Idealize.ShloMosaic.ValueIdx Idealize.ShloMosaic.TcCoe Idealize.SL.Sem Cert.KernelIdeal Cert.KernelIdeal.Gen
open scoped BigOperators

/-! ## The scores of a row, from the arguments -/

/-- A row's score for each expert: the row against the expert's weights. -/
def score (x : FVec Ideal S32768x4096 .f32) (w : FVec Ideal S64x4096 .f32) (row : Fin 32768) : Column :=
  fun e => ∑ k : Fin 4096, x (ix2 row k) * w (ix2 e k)

/-- The positions the kernel leaves. -/
def idxSpec (x : FVec Ideal S32768x4096 .f32) (w : FVec Ideal S64x4096 .f32) : IVec S32768x8 32 :=
  fun i => BitVec.ofNat 32 (chosen (score x w (i 0)) (i 1).val).val

/-- The weight of round `r` over a column of scores. -/
def weight (f : Column) (r : Fin 8) : EReal :=
  gate (peak (stage f r.val)) * Ideal.div (FloatOps.ofBits (F := Ideal) .f32 0x40200000#32) (∑ k : Fin 8, gate (peak (stage f k.val)))

/-- The weights the kernel leaves. -/
def wSpec (x : FVec Ideal S32768x4096 .f32) (w : FVec Ideal S64x4096 .f32) : FVec Ideal S32768x8 .f32 :=
  fun i => weight (score x w (i 0)) (i 1)

variable (m : (ℓ : Loc nD τ sig) → Buf (Elt Ideal) ℓ) (ρ : Dev nD → PrngReg)

/-- The tokens and the experts' weights in core `c`'s memory. -/
abbrev xOf (c : Dev nD) : FVec Ideal S32768x4096 .f32 := m ((c : Thread nD τ).loc main_arg0)
abbrev wOf (c : Dev nD) : FVec Ideal S64x4096 .f32 := m ((c : Thread nD τ).loc main_arg1)

/-! ## The windows' blocks -/

/-- The weights are transposed before the kernel runs. -/
theorem V_wt (c : Dev nD) : V m c main_v0 = transpose S4096x64 [1, 0] (wOf m c) transposes_S64x4096_S4096x64_1_0 := by
  show StableHlo.after _ _ (Proc.devRef .tc main_v0) = _
  simp only [hostOps0, List.flatten_cons, List.flatten_nil, List.append_nil, StableHlo.after_cons, StableHlo.after_nil]
  exact StableHlo.unary_result ..

theorem at0 : ∀ t : Fin cfg0.N, win0_0.index t 0 = t.val ∧ win0_0.index t 1 = 0 :=
  (by decide +kernel : ∀ t : Fin grid0.N, win0_0.index t 0 = t.val ∧ win0_0.index t 1 = 0)
theorem at1 : ∀ t : Fin cfg0.N, win0_1.index t 0 = t.val ∧ win0_1.index t 1 = 1 :=
  (by decide +kernel : ∀ t : Fin grid0.N, win0_1.index t 0 = t.val ∧ win0_1.index t 1 = 1)
theorem at2 : ∀ t : Fin cfg0.N, win0_2.index t 0 = 0 ∧ win0_2.index t 1 = 0 :=
  (by decide +kernel : ∀ t : Fin grid0.N, win0_2.index t 0 = 0 ∧ win0_2.index t 1 = 0)
theorem at3 : ∀ t : Fin cfg0.N, win0_3.index t 0 = 1 ∧ win0_3.index t 1 = 0 :=
  (by decide +kernel : ∀ t : Fin grid0.N, win0_3.index t 0 = 1 ∧ win0_3.index t 1 = 0)
theorem at4 : ∀ t : Fin cfg0.N, win0_4.index t 0 = 0 ∧ win0_4.index t 1 = t.val :=
  (by decide +kernel : ∀ t : Fin grid0.N, win0_4.index t 0 = 0 ∧ win0_4.index t 1 = t.val)
theorem at5 : ∀ t : Fin cfg0.N, win0_5.index t 0 = 0 ∧ win0_5.index t 1 = t.val :=
  (by decide +kernel : ∀ t : Fin grid0.N, win0_5.index t 0 = 0 ∧ win0_5.index t 1 = t.val)

theorem points : cfg0.N = 32 := N_0

/-- The row of the arguments that lane `l` of point `t` computes. -/
def rowAt (t : Fin cfg0.N) (l : Fin 1024) : Fin 32768 := ⟨t.val * 1024 + l.val, by have := t.isLt; have := points; omega⟩

theorem block0 (c : Dev nD) (t : Fin cfg0.N) (l : Fin 1024) (k : Fin 2048) :
    iblk m c 0 t (ix2 l k) = xOf m c (ix2 (rowAt t l) (k.castAdd 2048)) := by
  refine Eq.trans ?_ (congrFun (V_main_arg0 m c) (ix2 (rowAt t l) (k.castAdd 2048)))
  refine congrArg (V m c main_arg0) (funext fun a => Fin.ext ?_)
  refine (Pipeline.Window.rect_emb_val win0_0 t (ix2 l k) a).trans ?_
  fin_cases a
  · show win0_0.index t 0 * 1024 + l.val = _
    rw [(at0 t).1]; rfl
  · show win0_0.index t 1 * 2048 + k.val = _
    rw [(at0 t).2]; simp

theorem block1 (c : Dev nD) (t : Fin cfg0.N) (l : Fin 1024) (k : Fin 2048) :
    iblk m c 1 t (ix2 l k) = xOf m c (ix2 (rowAt t l) (k.natAdd 2048)) := by
  refine Eq.trans ?_ (congrFun (V_main_arg0 m c) (ix2 (rowAt t l) (k.natAdd 2048)))
  refine congrArg (V m c main_arg0) (funext fun a => Fin.ext ?_)
  refine (Pipeline.Window.rect_emb_val win0_1 t (ix2 l k) a).trans ?_
  fin_cases a
  · show win0_1.index t 0 * 1024 + l.val = _
    rw [(at1 t).1]; rfl
  · show win0_1.index t 1 * 2048 + k.val = _
    rw [(at1 t).2]; simp; omega

theorem block2 (c : Dev nD) (t : Fin cfg0.N) (k : Fin 2048) (e : Fin 64) :
    iblk m c 2 t (ix2 k e) = wOf m c (ix2 e (k.castAdd 2048)) := by
  have hT : V m c main_v0 (ix2 (k.castAdd 2048) e) = wOf m c (ix2 e (k.castAdd 2048)) :=
    (congrFun (V_wt m c) _).trans (transpose_ix2_apply _ _ _ _)
  refine Eq.trans ?_ hT
  refine congrArg (V m c main_v0) (funext fun a => Fin.ext ?_)
  refine (Pipeline.Window.rect_emb_val win0_2 t (ix2 k e) a).trans ?_
  fin_cases a
  · show win0_2.index t 0 * 2048 + k.val = _
    rw [(at2 t).1]; simp
  · show win0_2.index t 1 * 64 + e.val = _
    rw [(at2 t).2]; simp

theorem block3 (c : Dev nD) (t : Fin cfg0.N) (k : Fin 2048) (e : Fin 64) :
    iblk m c 3 t (ix2 k e) = wOf m c (ix2 e (k.natAdd 2048)) := by
  have hT : V m c main_v0 (ix2 (k.natAdd 2048) e) = wOf m c (ix2 e (k.natAdd 2048)) :=
    (congrFun (V_wt m c) _).trans (transpose_ix2_apply _ _ _ _)
  refine Eq.trans ?_ hT
  refine congrArg (V m c main_v0) (funext fun a => Fin.ext ?_)
  refine (Pipeline.Window.rect_emb_val win0_3 t (ix2 k e) a).trans ?_
  fin_cases a
  · show win0_3.index t 0 * 2048 + k.val = _
    rw [(at3 t).1]; simp; omega
  · show win0_3.index t 1 * 64 + e.val = _
    rw [(at3 t).2]; simp

/-- The block's scores are the rows' scores: the two half sums make the whole one. -/
theorem block_scores (c : Dev nD) (t : Fin cfg0.N) (l : Fin 1024) :
    lane (scores (iblk m c 0 t) (iblk m c 1 t) (iblk m c 2 t) (iblk m c 3 t)) l = score (xOf m c) (wOf m c) (rowAt t l) := by
  funext e
  refine (lane_scores _ _ _ _ l e).trans ?_
  unfold score
  refine Eq.trans ?_ (Fin.sum_univ_add (a := 2048) (b := 2048)
    (fun k : Fin 4096 => xOf m c (ix2 (rowAt t l) k) * wOf m c (ix2 e k))).symm
  refine congrArg₂ (· + ·) (Finset.sum_congr rfl fun k _ => ?_) (Finset.sum_congr rfl fun k _ => ?_)
  · exact congrArg₂ (· * ·) (block0 m c t l k) (block2 m c t k e)
  · exact congrArg₂ (· * ·) (block1 m c t l k) (block3 m c t k e)

/-! ## The two result arrays of the kernel call -/

/-- Distinct points write distinct blocks. -/
theorem apart4 (t t' : Fin cfg0.N) (_ : (cfg0.win 4).flush t = true) (_ : (cfg0.win 4).flush t' = true) (hne : t ≠ t') :
    Disjoint ((cfg0.win 4).blk t).view.set ((cfg0.win 4).blk t').view.set :=
  (cfg0.win 4).disjoint_blk fun h => hne (Fin.ext (by
    have h1 : win0_4.index t 1 = win0_4.index t' 1 := congrFun h 1
    rwa [(at4 t).2, (at4 t').2] at h1))

theorem apart5 (t t' : Fin cfg0.N) (_ : (cfg0.win 5).flush t = true) (_ : (cfg0.win 5).flush t' = true) (hne : t ≠ t') :
    Disjoint ((cfg0.win 5).blk t).view.set ((cfg0.win 5).blk t').view.set :=
  (cfg0.win 5).disjoint_blk fun h => hne (Fin.ext (by
    have h1 : win0_5.index t 1 = win0_5.index t' 1 := congrFun h 1
    rwa [(at5 t).2, (at5 t').2] at h1))

/-- Element (r, l) of point `t`'s block of the positions. -/
theorem array4_at (c : Dev nD) (t : Fin cfg0.N) (r : Fin 8) (l : Fin 1024) :
    (dats m 0 c).arrAt 4 cfg0.N (ix2 r (rowAt t l) : S8x32768.Idx)
      = BitVec.ofNat 32 (chosen (score (xOf m c) (wOf m c) (rowAt t l)) r.val).val := by
  have hz : (![0, 0] : Fin 2 → Nat) = fun _ => 0 := by funext a; fin_cases a <;> rfl
  have he : ((cfg0.win 4).blk t).view.emb (ix2 r l) = (ix2 r (rowAt t l) : S8x32768.Idx) := by
    refine funext fun a => Fin.ext ((Pipeline.Window.rect_emb_val win0_4 t (ix2 r l) a).trans ?_)
    fin_cases a
    · show win0_4.index t 0 * 8 + r.val = _
      rw [(at4 t).1]; simp
    · show win0_4.index t 1 * 1024 + l.val = _
      rw [(at4 t).2]; rfl
  rw [← he]
  refine ((dats m 0 c).arrAt_emb_eq_flushed 4 apart4 t (flush0_4 t) (ix2 r l)).trans ?_
  show (dats m 0 c).after 4 t (ix2 r l) = _
  rw [after0_4, payload4, View.canon_unit_zero hz]
  exact (idxOut_apply _ r l).trans (by rw [block_scores])

/-- Element (r, l) of point `t`'s block of the weights. -/
theorem array5_at (c : Dev nD) (t : Fin cfg0.N) (r : Fin 8) (l : Fin 1024) :
    (dats m 0 c).arrAt 5 cfg0.N (ix2 r (rowAt t l) : S8x32768.Idx) = weight (score (xOf m c) (wOf m c) (rowAt t l)) r := by
  have hz : (![0, 0] : Fin 2 → Nat) = fun _ => 0 := by funext a; fin_cases a <;> rfl
  have he : ((cfg0.win 5).blk t).view.emb (ix2 r l) = (ix2 r (rowAt t l) : S8x32768.Idx) := by
    refine funext fun a => Fin.ext ((Pipeline.Window.rect_emb_val win0_5 t (ix2 r l) a).trans ?_)
    fin_cases a
    · show win0_5.index t 0 * 8 + r.val = _
      rw [(at5 t).1]; simp
    · show win0_5.index t 1 * 1024 + l.val = _
      rw [(at5 t).2]; rfl
  rw [← he]
  refine ((dats m 0 c).arrAt_emb_eq_flushed 5 apart5 t (flush0_5 t) (ix2 r l)).trans ?_
  show (dats m 0 c).after 5 t (ix2 r l) = _
  rw [after0_5, payload5, View.canon_unit_zero hz]
  exact (wOut_apply _ r l).trans (by rw [block_scores]; rfl)

/-- Every row is a lane of some point. -/
theorem rowAt_surj (row : Fin 32768) : ∃ t l, rowAt t l = row :=
  ⟨⟨row.val / 1024, by have := row.isLt; have := points; omega⟩, ⟨row.val % 1024, by omega⟩,
    Fin.ext (by show row.val / 1024 * 1024 + row.val % 1024 = row.val; omega)⟩

/-! ## The results -/

/-- A region's array as the lines after the region find it. -/
theorem left_at (c : Dev nD) (w : Fin cfg0.W) :
    Pipeline.withArrays cfg0.spec c (V0 m c) (fun w => (dats m 0 c).arrAt w cfg0.N) (Proc.devRef .tc (Pipeline.arrRef cfg0.spec w))
      = (dats m 0 c).arrAt w cfg0.N :=
  (dats m 0 c).withArrays_arrAt sharedIn0 (V0 m c) (A_eq m c) w

theorem idx_left (c : Dev nD) : Pipeline.afterTail₀ cfgs (dats m) 0 (V0 m) [hostOps1] c main_v2 = idxSpec (xOf m c) (wOf m c) := by
  unfold Pipeline.afterTail₀
  simp only [hostOps1, List.flatten_cons, List.flatten_nil, List.append_nil, StableHlo.after_cons, StableHlo.after_nil]
  rw [StableHlo.unary_result_ne _ _ _ _ _ _ (by decide), StableHlo.unary_result]
  funext i
  obtain ⟨row, r, rfl⟩ : ∃ row r, i = ix2 row r := ⟨i 0, i 1, eq_ix2 i⟩
  refine (transpose_ix2_apply _ _ _ _).trans ?_
  refine (congrFun (left_at m c 4) (ix2 r row)).trans ?_
  obtain ⟨t, l, rfl⟩ := rowAt_surj row
  exact array4_at m c t r l

theorem w_left (c : Dev nD) : Pipeline.afterTail₀ cfgs (dats m) 0 (V0 m) [hostOps1] c main_v3 = wSpec (xOf m c) (wOf m c) := by
  unfold Pipeline.afterTail₀
  simp only [hostOps1, List.flatten_cons, List.flatten_nil, List.append_nil, StableHlo.after_cons, StableHlo.after_nil]
  rw [StableHlo.unary_result, StableHlo.unary_result_ne _ _ _ _ _ _ (by decide)]
  funext i
  obtain ⟨row, r, rfl⟩ : ∃ row r, i = ix2 row r := ⟨i 0, i 1, eq_ix2 i⟩
  refine (transpose_ix2_apply _ _ _ _).trans ?_
  refine (congrFun (left_at m c 5) (ix2 r row)).trans ?_
  obtain ⟨t, l, rfl⟩ := rowAt_surj row
  exact array5_at m c t r l

/-- The kernel's run: both results by row and round, the arguments kept. -/
theorem kernel_run : θ_run defs (onTc (τ := τ) (main (F := Ideal))) ⟨m, fun _ => 0, ρ⟩ fun r => ∀ c : Dev nD,
      r.2.mem ((c.tc : Thread nD τ).loc main_v2) = idxSpec (xOf m c) (wOf m c)
      ∧ r.2.mem ((c.tc : Thread nD τ).loc main_v3) = wSpec (xOf m c) (wOf m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h.1 c).2 main_v2 (Pipeline.mem_restRefs_of main_v2 (by decide) (by decide))).trans (idx_left m c),
      ((h.1 c).2 main_v3 (Pipeline.mem_restRefs_of main_v3 (by decide) (by decide))).trans (w_left m c), h.2 c⟩)
    (θ_run_and (run_main m ρ) (unchanged m ρ))

end Cert.Gate

end
-- ==== Proof.Finite.lean ====
/- Finite arguments: every entry is a real number, so every score is one, and its sigmoid is a positive real that grows with
   the score. -/
module

public import proofs.«01_k».proof.Proof.Arrays
public import proofs.«01_k».proof.Proof.Gen.Pre_finite
public import Idealize.ShloMosaic.Lib.ReduceAll
public import Idealize.ShloMosaic.Lib.KernelVsHost

@[expose] public section

noncomputable section

namespace Cert.Gate

open Idealize.ShloMosaic Idealize.ShloMosaic.ValueIdx
open scoped BigOperators

/-! ## The precondition read back -/

theorem both_one (a b : BitVec 1) (h : IntOp.andi a b = 1#1) : a = 1#1 ∧ b = 1#1 := by
  revert a b; decide

/-- A value whose absolute value is below +∞ is a real number. -/
theorem real_of_abs_lt (x : EReal) (h : FloatOps.cmpf (F := Ideal) (φ := .f32) .olt (FloatOps.hostAbsf x) (FloatOps.ofBits .f32 0x7F800000#32) = 1#1) :
    ∃ a : ℝ, x = a := by
  have htop : Ideal.ofBits .f32 0x7F800000#32 = ⊤ := by simp [Ideal.ofBits, Ideal.ieee]
  have h' : Ideal.cmp .olt (max x (-x)) (Ideal.ofBits .f32 0x7F800000#32) = 1#1 := h
  rw [htop] at h'
  have hlt : max x (-x) < ⊤ := by
    by_contra hn
    have : Ideal.cmp .olt (max x (-x)) ⊤ = BitVec.ofBool (decide (max x (-x) < ⊤)) := rfl
    rw [this, decide_eq_false hn] at h'
    exact absurd h' (by decide)
  rw [max_lt_iff] at hlt
  induction x with
  | bot => simp at hlt
  | top => simp at hlt
  | coe a => exact ⟨a, rfl⟩

instance : Subsingleton (Shape.Idx Cert.Pre_finite.S_) := ⟨fun a b => funext fun d => d.elim0⟩

/-- Under the precondition every entry of both arguments is a real number. -/
theorem entries_real (x : FVec Ideal Cert.Pre_finite.S32768x4096 .f32) (w : FVec Ideal Cert.Pre_finite.S64x4096 .f32)
    (h : Cert.Pre_finite.fn (F := Ideal) x w = fun _ => 1#1) : (∀ i, ∃ a : ℝ, x i = a) ∧ ∀ i, ∃ a : ℝ, w i = a := by
  have h0 := congrFun h ix0
  have hb := both_one _ _ h0
  exact ⟨fun i => real_of_abs_lt _ (Host.reduce_andi_all _ _ _ _ ix0 hb.1 i), fun i => real_of_abs_lt _ (Host.reduce_andi_all _ _ _ _ ix0 hb.2 i)⟩

/-! ## Real scores -/

/-- A finite sum of reals is a real. -/
theorem sum_real {n : Nat} (g : Fin n → EReal) (h : ∀ k, ∃ a : ℝ, g k = a) : ∃ a : ℝ, ∑ k, g k = a := by
  choose a ha using h
  refine ⟨∑ k, a k, ?_⟩
  rw [Finset.sum_congr rfl fun k _ => ha k]
  induction (Finset.univ : Finset (Fin n)) using Finset.cons_induction with
  | empty => simp
  | cons i s hi ih => rw [Finset.sum_cons, Finset.sum_cons, ih, EReal.coe_add]

theorem score_real (x : FVec Ideal Cert.KernelIdeal.S32768x4096 .f32) (w : FVec Ideal Cert.KernelIdeal.S64x4096 .f32)
    (hx : ∀ i, ∃ a : ℝ, x i = a) (hw : ∀ i, ∃ a : ℝ, w i = a) (row : Fin 32768) (e : Fin 64) : ∃ a : ℝ, score x w row e = a := by
  refine sum_real _ fun k => ?_
  obtain ⟨a, ha⟩ := hx (ix2 row k)
  obtain ⟨b, hb⟩ := hw (ix2 e k)
  exact ⟨a * b, by rw [ha, hb, EReal.coe_mul]⟩

/-! ## The sigmoid on the reals -/

theorem gate_eq (v : EReal) : gate v = Ideal.logistic v := by
  unfold gate Ideal.logistic
  rw [zero_sub]

theorem gate_coe (a : ℝ) : gate a = (((1 + Real.exp (-a))⁻¹ : ℝ) : EReal) := by rw [gate_eq, Ideal.logistic_coe]

theorem gate_lt (a b : ℝ) : gate a < gate b ↔ (a : EReal) < b := by
  rw [gate_coe, gate_coe, EReal.coe_lt_coe_iff, EReal.coe_lt_coe_iff]
  have ha : (0 : ℝ) < 1 + Real.exp (-a) := by positivity
  have hb : (0 : ℝ) < 1 + Real.exp (-b) := by positivity
  rw [inv_lt_inv₀ ha hb]
  constructor
  · intro h; have := Real.exp_lt_exp.1 (by linarith : Real.exp (-b) < Real.exp (-a)); linarith
  · intro h; have := Real.exp_lt_exp.2 (by linarith : -b < -a); linarith

theorem gate_pos (a : ℝ) : 0 < gate a := by
  rw [gate_coe]
  have ha : (0 : ℝ) < (1 + Real.exp (-a))⁻¹ := by positivity
  exact_mod_cast ha

end Cert.Gate

end
-- ==== Proof.Reference.lean ====
/- The reference's results at the ideal values, for finite arguments: the stable sort of the sigmoids takes the positions the
   kernel's rounds pick, and the normalised, scaled sigmoids are the kernel's weights. -/
module

public import proofs.«01_k».proof.Proof.Finite
public import proofs.«01_k».proof.Proof.Gen.ReferenceIdeal.Run
public import Idealize.ShloMosaic.Lib.StackMember

@[expose] public section

noncomputable section

namespace Cert.Gate.Ref

open Idealize.ShloMosaic Idealize.ShloMosaic.ValueIdx Idealize.ShloMosaic.TcCoe Idealize.SL.Sem Cert.ReferenceIdeal Cert.ReferenceIdeal.Gen
open Cert.Gate
open scoped BigOperators

/-! ## The reference's values, named -/

/-- The sigmoids of all scores. -/
def sig (x : FVec Ideal S32768x4096 .f32) (w : FVec Ideal S64x4096 .f32) : FVec Ideal S32768x64 .f32 :=
  Host.divf (broadcastInDim S32768x64 ![] bcast_S_S32768x64 (constant S_ .f32 0x3F800000#32))
    (addf (broadcastInDim S32768x64 ![] bcast_S_S32768x64 (constant S_ .f32 0x3F800000#32))
      (Host.exp (Host.negf (Host.dotGeneral dot_S32768x4096_S4096x64_S32768x64_1_0_0_1_n_n none x
        (transpose S4096x64 [1, 0] w transposes_S64x4096_S4096x64_1_0)))))

/-- The eight greatest of each row, and their positions. -/
def top (x : FVec Ideal S32768x4096 .f32) (w : FVec Ideal S64x4096 .f32) : FVec Ideal S32768x8 .f32 × IVec S32768x8 32 :=
  Host.topK S32768x8 1 (FloatOps.cmpfTotal .gt) (sig x w) sliceFits_S32768x64_S32768x8

/-- The weights: each divided by its row's sum, times 2.5. -/
def out (v : FVec Ideal S32768x8 .f32) : FVec Ideal S32768x8 .f32 :=
  mulf (Host.divf v (broadcastInDim S32768x8 ![0, 1] bcast_S32768x1_S32768x8_0_1
    (broadcastInDim S32768x1 ![0] bcast_S32768_S32768x1_0
      (Host.reduceAdd v (constant S_ .f32 0x00000000#32) reducesTo_S32768x8_S32768_d1 h_S_))))
    (broadcastInDim S32768x8 ![] bcast_S_S32768x8 (constant S_ .f32 0x40200000#32))

/-! ## A sort of each row -/

section Rows

variable {n : Nat} {α β : Type}

/-- Element (row, k) with its second coordinate replaced. -/
theorem along_row (row : Fin n) (a : Fin 64) : Shape.Idx.along (s := ⟨2, ![n, 64]⟩) (ix2 row a) 1 = ix2 row := by
  funext k d; unfold Shape.Idx.along; fin_cases d <;> rfl

/-- A two-operand sort along the rows reads, at (row, a), both operands where the row's sort takes its entry `a`. -/
theorem sort2_row (cmp : α × β → α × β → BitVec 1) (x : Shape.Idx ⟨2, ![n, 64]⟩ → α) (y : Shape.Idx ⟨2, ![n, 64]⟩ → β) (row : Fin n) (a : Fin 64) :
    (Host.sort2 ⟨2, ![n, 64]⟩ 1 cmp x y).1 (ix2 row a)
      = x (ix2 row (sortedFrom (fun k k' : Fin 64 => cmp (x (ix2 row k), y (ix2 row k)) (x (ix2 row k'), y (ix2 row k')) == 1#1) a))
    ∧ (Host.sort2 ⟨2, ![n, 64]⟩ 1 cmp x y).2 (ix2 row a)
      = y (ix2 row (sortedFrom (fun k k' : Fin 64 => cmp (x (ix2 row k), y (ix2 row k)) (x (ix2 row k'), y (ix2 row k')) == 1#1) a)) :=
  ⟨congrArg (fun g : Fin 64 → Shape.Idx ⟨2, ![n, 64]⟩ =>
      x (g (sortedFrom (fun k k' : Fin 64 => cmp (x (g k), y (g k)) (x (g k'), y (g k')) == 1#1) a))) (along_row row a),
    congrArg (fun g : Fin 64 → Shape.Idx ⟨2, ![n, 64]⟩ =>
      y (g (sortedFrom (fun k k' : Fin 64 => cmp (x (g k), y (g k)) (x (g k'), y (g k')) == 1#1) a))) (along_row row a)⟩

/-- The eight greatest of each row, read at an element, and their positions. -/
theorem topK_row (gt : α → α → BitVec 1) (x : Shape.Idx ⟨2, ![n, 64]⟩ → α)
    (h : Shape.Slices ⟨2, ![n, 64]⟩ (fun _ => 0) ⟨2, ![n, 8]⟩) (row : Fin n) (r : Fin 8) (a : Fin 64) (ha : a.val = r.val) :
    (Host.topK ⟨2, ![n, 8]⟩ 1 gt x h).1 (ix2 row r)
      = x (ix2 row (sortedFrom (fun k k' : Fin 64 => gt (x (ix2 row k)) (x (ix2 row k')) == 1#1) a))
    ∧ (Host.topK ⟨2, ![n, 8]⟩ 1 gt x h).2 (ix2 row r)
      = BitVec.ofNat 32 (sortedFrom (fun k k' : Fin 64 => gt (x (ix2 row k)) (x (ix2 row k')) == 1#1) a).val := by
  have hoff : ∀ d : Fin 2, ((ix2 row a : Shape.Idx ⟨2, ![n, 64]⟩) d).val = 0 + ((ix2 row r : Shape.Idx ⟨2, ![n, 8]⟩) d).val := fun d => by
    fin_cases d
    · exact (Nat.zero_add _).symm
    · exact ha.trans (Nat.zero_add _).symm
  have hs := sort2_row (fun l r : α × BitVec 32 => gt l.1 r.1) x
    (fun i => if hd : 1 < 2 then iotaInDim ⟨2, ![n, 64]⟩ 32 ⟨1, hd⟩ i else 0#32) row a
  exact ⟨(extractStridedSlice_apply (fun _ => 0) _ h (ix2 row r) (ix2 row a) hoff).trans hs.1,
    (extractStridedSlice_apply (fun _ => 0) _ h (ix2 row r) (ix2 row a) hoff).trans hs.2⟩

end Rows

/-! ## At an element -/

variable (x : FVec Ideal S32768x4096 .f32) (w : FVec Ideal S64x4096 .f32)

theorem sig_apply (row : Fin 32768) (e : Fin 64) : sig x w (ix2 row e) = gate (score x w row e) := by
  have h1 : constant (F := Ideal) S_ .f32 0x3F800000#32 ix0 = (1 : EReal) := Ideal.ofBits_one_f32
  have hdot : Host.dotGeneral dot_S32768x4096_S4096x64_S32768x64_1_0_0_1_n_n none x
      (transpose S4096x64 [1, 0] w transposes_S64x4096_S4096x64_1_0) (ix2 row e) = score x w row e := by
    refine (StackMember.dotGeneral_plain_apply (m := 32768) (k := 4096) (n := 64) none x _ row e).trans ?_
    exact Finset.sum_congr rfl fun k _ => congrArg (x (ix2 row k) * ·) (transpose_ix2_apply w _ k e)
  have hone : broadcastInDim S32768x64 ![] bcast_S_S32768x64 (constant (F := Ideal) S_ .f32 0x3F800000#32) (ix2 row e) = (1 : EReal) :=
    (broadcastInDim_scalar_apply _ _ _).trans h1
  unfold gate
  rw [zero_sub]
  show Ideal.div (broadcastInDim S32768x64 ![] bcast_S_S32768x64 (constant (F := Ideal) S_ .f32 0x3F800000#32) (ix2 row e))
    (broadcastInDim S32768x64 ![] bcast_S_S32768x64 (constant (F := Ideal) S_ .f32 0x3F800000#32) (ix2 row e)
      + Ideal.exp (-(Host.dotGeneral dot_S32768x4096_S4096x64_S32768x64_1_0_0_1_n_n none x
        (transpose S4096x64 [1, 0] w transposes_S64x4096_S4096x64_1_0) (ix2 row e)))) = _
  rw [hone, hdot]

variable (hx : ∀ i, ∃ a : ℝ, x i = a) (hw : ∀ i, ∃ a : ℝ, w i = a)

include hx hw

/-- The position the sort takes round `r`'s entry from. -/
theorem place (row : Fin 32768) (r : Fin 8) :
    sortedFrom (fun k k' : Fin 64 => FloatOps.cmpfTotal .gt (sig x w (ix2 row k)) (sig x w (ix2 row k')) == 1#1) (r.castLE (by decide))
      = chosen (score x w row) r.val := by
  refine sorted_eq_chosen (fun e => ?_) _ (fun a b => ?_) r
  · obtain ⟨a, ha⟩ := score_real x w hx hw row e
    rw [ha]; exact EReal.coe_ne_bot a
  · obtain ⟨s, hs⟩ := score_real x w hx hw row a
    obtain ⟨t, ht⟩ := score_real x w hx hw row b
    rw [sig_apply, sig_apply, hs, ht]
    show (BitVec.ofBool (decide (gate t < gate s)) == 1#1) = _
    rw [decide_eq_decide.2 (gate_lt t s)]
    cases decide ((t : EReal) < s) <;> rfl

omit hx hw in
theorem top_at (row : Fin 32768) (r : Fin 8) :
    (top x w).1 (ix2 row r) = sig x w (ix2 row (sortedFrom (fun k k' : Fin 64 =>
        FloatOps.cmpfTotal .gt (sig x w (ix2 row k)) (sig x w (ix2 row k')) == 1#1) (r.castLE (by decide))))
      ∧ (top x w).2 (ix2 row r) = BitVec.ofNat 32 (sortedFrom (fun k k' : Fin 64 =>
        FloatOps.cmpfTotal .gt (sig x w (ix2 row k)) (sig x w (ix2 row k')) == 1#1) (r.castLE (by decide))).val :=
  topK_row (n := 32768) (FloatOps.cmpfTotal .gt) (sig x w) sliceFits_S32768x64_S32768x8 row r _ rfl

theorem top_idx (row : Fin 32768) (r : Fin 8) : (top x w).2 (ix2 row r) = BitVec.ofNat 32 (chosen (score x w row) r.val).val := by
  rw [(top_at x w row r).2, place x w hx hw row r]

theorem top_val (row : Fin 32768) (r : Fin 8) : (top x w).1 (ix2 row r) = gate (peak (stage (score x w row) r.val)) := by
  have hne : ∀ i, score x w row i ≠ ⊥ := fun e => by
    obtain ⟨a, ha⟩ := score_real x w hx hw row e
    rw [ha]; exact EReal.coe_ne_bot a
  rw [(top_at x w row r).1, place x w hx hw row r, sig_apply, peak_stage hne (by have := r.isLt; omega)]

theorem out_eq : out (top x w).1 = wSpec x w := by
  funext i
  obtain ⟨row, r, rfl⟩ : ∃ row r, i = ix2 row r := ⟨i 0, i 1, eq_ix2 i⟩
  have hR : S32768x8.Reduces [1] S32768 := by decide
  have hl : ∀ k : Fin 8, hR.lift (ix1 row) k = ix2 row k := fun k => by funext a; apply Fin.ext; fin_cases a <;> rfl
  have hsum : Host.reduceAdd (top x w).1 (constant (F := Ideal) S_ .f32 0x00000000#32) reducesTo_S32768x8_S32768_d1 h_S_ (ix1 row)
      = ∑ k : Fin 8, gate (peak (stage (score x w row) k.val)) := by
    refine (Ideal.hostReduceAdd_single reducesTo_S32768x8_S32768_d1 hR (top x w).1 _ (ix1 row)).trans ?_
    rw [show constant (F := Ideal) S_ .f32 0x00000000#32 (Shape.Idx.first h_S_) = (0 : EReal) from Ideal.ofBits_zero_f32, zero_add]
    exact Finset.sum_congr rfl fun k _ => (congrArg (top x w).1 (hl k)).trans (top_val x w hx hw row k)
  have hpos : ∀ k : Fin 8, 0 < gate (peak (stage (score x w row) k.val)) := fun k => by
    have hb : ∀ i, score x w row i ≠ ⊥ := fun e => by
      obtain ⟨a, ha⟩ := score_real x w hx hw row e
      rw [ha]; exact EReal.coe_ne_bot a
    rw [peak_stage hb (by have := k.isLt; omega)]
    obtain ⟨a, ha⟩ := score_real x w hx hw row (chosen (score x w row) k.val)
    rw [ha]; exact gate_pos a
  have hne : ∑ k : Fin 8, gate (peak (stage (score x w row) k.val)) ≠ 0 :=
    ne_of_gt (lt_of_lt_of_le (hpos r) (Finset.single_le_sum (f := fun k : Fin 8 => gate (peak (stage (score x w row) k.val)))
      (fun k _ => le_of_lt (hpos k)) (Finset.mem_univ r)))
  have swap : ∀ g s c : EReal, s ≠ 0 → Ideal.div g s * c = g * Ideal.div c s := fun g s c hs => by
    unfold Ideal.div
    rw [if_neg hs, if_neg hs, mul_assoc, mul_comm s⁻¹ c]
  have hscale : broadcastInDim S32768x8 ![] bcast_S_S32768x8 (constant (F := Ideal) S_ .f32 0x40200000#32) (ix2 row r)
      = FloatOps.ofBits (F := Ideal) .f32 0x40200000#32 := broadcastInDim_scalar_apply _ _ _
  have hcol : ∀ v : FVec Ideal S32768 .f32, broadcastInDim S32768x8 ![0, 1] bcast_S32768x1_S32768x8_0_1
      (broadcastInDim S32768x1 ![0] bcast_S32768_S32768x1_0 v) (ix2 row r) = v (ix1 row) := fun v =>
    (broadcastInDim_apply _ _ _ (ix2 row r) (ix2 row (0 : Fin 1)) (fun a => by fin_cases a <;> rfl)).trans
      (broadcastInDim_apply _ _ _ (ix2 row (0 : Fin 1)) (ix1 row) (fun a => by fin_cases a; rfl))
  have hspec : wSpec x w (ix2 row r) = weight (score x w row) r := rfl
  unfold out
  rw [mulf_apply, hostDivf_apply, hscale, hcol, hsum, top_val x w hx hw row r, hspec]
  exact swap _ _ _ hne

theorem idx_eq : (top x w).2 = idxSpec x w := by
  funext i
  obtain ⟨row, r, rfl⟩ : ∃ row r, i = ix2 row r := ⟨i 0, i 1, eq_ix2 i⟩
  exact top_idx x w hx hw row r

end Cert.Gate.Ref

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite
public import proofs.«01_k».proof.Proof.Arrays
public import proofs.«01_k».proof.Proof.Reference
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference leaves its arguments as they were and every semaphore at zero. -/
theorem reference_quiescent [Cert.ReferenceIdeal.Facts]
    (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  (θ_run Cert.ReferenceIdeal.defs _ _).mono
    (fun r h => ⟨fun c => ⟨(h c).2.2.1, (h c).2.2.2⟩, Idealize.ShloMosaic.sem_eq_zero_of_no_sems (by decide) r.2⟩)
    (Cert.ReferenceIdeal.Value.run m g)

/-- From memories holding the same finite arguments, the kernel and the reference end with equal results. -/
theorem results_equal : Cert.algebraic_KernelIdeal_ReferenceIdeal_pre_finite := fun m g m' g' hpre hargs =>
  ⟨fun c => Cert.Gate.idxSpec (Cert.Gate.xOf m c) (Cert.Gate.wOf m c),
    fun c => Cert.Gate.wSpec (Cert.Gate.xOf m c) (Cert.Gate.wOf m c),
    Cert.Gate.kernel_run m g,
    (θ_run Cert.ReferenceIdeal.defs _ _).mono (fun r h c => by
      obtain ⟨hx, hw⟩ := Cert.Gate.entries_real (Cert.Gate.xOf m c) (Cert.Gate.wOf m c) (hpre c)
      have h0 := (h c).1
      have h1 := (h c).2.1
      rw [(hargs c).1, (hargs c).2] at h0 h1
      exact ⟨h0.trans (Cert.Gate.Ref.idx_eq _ _ hx hw), h1.trans (Cert.Gate.Ref.out_eq _ _ hx hw), (h c).2.2.1, (h c).2.2.2⟩)
      (Cert.ReferenceIdeal.Value.run m' g')⟩

theorem claim : Cert.Claim := ⟨Cert.Kernel.Gen.facts, Cert.KernelIdeal.Gen.facts, Cert.ReferenceIdeal.Gen.facts, Cert.Pre_finite.Gen.facts,
  fun m g _ => Cert.Kernel.Gen.frame m g,
  fun m g _ => Cert.KernelIdeal.Gen.frame m g,
  fun m g _ => Cert.KernelIdeal.Gen.frame m g,
  fun m g _ => reference_quiescent m g,
  fun m g _ => reference_quiescent m g,
  trivial,
  results_equal⟩

end Cert.Proof

end
